-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S1x16 : Shape := ⟨2, ![1, 16]⟩
abbrev S8192x16 : Shape := ⟨2, ![8192, 16]⟩
abbrev S2048x1024 : Shape := ⟨2, ![2048, 1024]⟩
abbrev S2048x16 : Shape := ⟨2, ![2048, 16]⟩
abbrev S1024x16 : Shape := ⟨2, ![1024, 16]⟩
abbrev S256x1024 : Shape := ⟨2, ![256, 1024]⟩
abbrev S256x16 : Shape := ⟨2, ![256, 16]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16x1024, .f32⟩
  | .hbm, ⟨6, _⟩ => ⟨S16, .f32⟩
  | .hbm, ⟨7, _⟩ => ⟨S1x1024, .f32⟩
  | .hbm, ⟨8, _⟩ => ⟨S1x1024, .f32⟩
  | .hbm, ⟨9, _⟩ => ⟨S1x16, .f32⟩
  | .hbm, ⟨10, _⟩ => ⟨S8192x16, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S16x1024, .f32⟩
  | .local _ .vmem, ⟨7, _⟩ => ⟨S1x16, .f32⟩
  | .local _ .vmem, ⟨8, _⟩ => ⟨S2048x16, .f32⟩
  | .local _ .vmem, ⟨9, _⟩ => ⟨S2048x16, .f32⟩
  | .local _ .vmem, ⟨10, _⟩ => ⟨S1024x1024, .bf16⟩
  | .local _ .vmem, ⟨11, _⟩ => ⟨S1024x1024, .fp8e4m3⟩
  | .local _ .vmem, ⟨12, _⟩ => ⟨S1024x16, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S_ : Shape := ⟨0, ![]⟩
abbrev S1024x16 : Shape := ⟨2, ![1024, 16]⟩
abbrev S8192x16 : Shape := ⟨2, ![8192, 16]⟩
abbrev S1x16 : Shape := ⟨2, ![1, 16]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16x1024, .f32⟩
  | .hbm, ⟨6, _⟩ => ⟨S16, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S1024x16, .f32⟩
  | .hbm, ⟨30, _⟩ => ⟨S8192x16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x16, .f32⟩
  | .hbm, ⟨47, _⟩ => ⟨S8192x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Tile.lean ====
/-
  What the kernel's body computes at one grid point, as a function of the blocks it loads.

  A point's 2048 tokens are treated in eight runs of 256. `tile` is the whole computation for one run: the gate and
  the up projection, the gated hidden layer, the router's logits and their softmax. `blockOut` lays the eight runs
  side by side. The theorems state that the body leaves `blockOut` in its output buffer at every point, and that the
  first point leaves the transposed, narrowed weights in the three scratch buffers.
-/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.Tile

open Cert.KernelIdeal Cert.KernelIdeal.Gen

variable {F : FTy → Type} [FloatOps F]

/-- The literal offset `(0, 0)` is the zero offset. -/
theorem hz : (![0, 0] : Fin 2 → Nat) = fun _ => 0 := funext fun a => by fin_cases a <;> rfl

/-- A linear layer on 256 tokens: the product with a transposed weight, plus the bias row on every token. -/
def linear {φ ψ : FTy} (a : FVec F S256x1024 φ) (w : FVec F S1024x1024 ψ) (b : Vec F S1x1024 .f32) : FVec F S256x1024 .f32 :=
  addf (matmul dot_S256x1024_S1024x1024_S256x1024_1_0_0_1_n_n none a w (constant S256x1024 .f32 0x00000000#32))
    (broadcastTo S256x1024 (shapeCast S1x1024 b shapeCasts_S1x1024_S1x1024) broadcasts_S1x1024_S256x1024)

/-- The gated hidden layer of 256 tokens: the up projection times the logistic gate, kept where positive. -/
def hidden (x : Vec F S256x1024 .f32) (w1t : Vec F S1024x1024 .bf16) (b1 : Vec F S1x1024 .f32)
    (w1gt : Vec F S1024x1024 .fp8e4m3) (b1g : Vec F S1x1024 .f32) : FVec F S256x1024 .f32 :=
  maximumf
    (mulf (linear (truncf .bf16 x bitsLt_bf16_f32) w1t b1)
      (logistic (linear (truncf .fp8e4m3 (truncf .bf16 x bitsLt_bf16_f32) bitsLt_fp8e4m3_bf16) w1gt b1g)))
    (broadcast S256x1024 (Scalar.ofBits .f32 0x00000000#32))

/-- The router's sixteen logits of 256 tokens, from their hidden layer. -/
def logits (h : FVec F S256x1024 .f32) (w2t : Vec F S1024x16 .bf16) (b2 : Vec F S1x16 .f32) : FVec F S256x16 .f32 :=
  addf (matmul dot_S256x1024_S1024x16_S256x16_1_0_0_1_n_n none (truncf .bf16 h bitsLt_bf16_f32) w2t
      (constant S256x16 .f32 0x00000000#32))
    (broadcastTo S256x16 (shapeCast S1x16 b2 shapeCasts_S1x16_S1x16) broadcasts_S1x16_S256x16)

/-- One number per token laid along the sixteen experts. -/
def spread (v : FVec F S256 .f32) : FVec F S256x16 .f32 :=
  broadcastTo S256x16 (shapeCast S256x1 v shapeCasts_S256_S256x1) broadcasts_S256x1_S256x16

/-- The exponentials of the logits, each token's largest logit subtracted first. -/
def weights (l : FVec F S256x16 .f32) : FVec F S256x16 .f32 :=
  exp (subf l (spread (multiReduction .maximumf [1] S256 l 0xFF800000#32 reduces_S256x16_S256 (.inl rfl) rfl)))

/-- The softmax over the experts of 256 tokens. -/
def softmax (l : FVec F S256x16 .f32) : FVec F S256x16 .f32 :=
  divf (weights l) (spread (multiReduction .add [1] S256 (weights l) 0x00000000#32 reduces_S256x16_S256 (.inl rfl) rfl))

/-- The routing probabilities of 256 tokens. -/
def tile (x : Vec F S256x1024 .f32) (w1t : Vec F S1024x1024 .bf16) (b1 : Vec F S1x1024 .f32)
    (w1gt : Vec F S1024x1024 .fp8e4m3) (b1g : Vec F S1x1024 .f32) (w2t : Vec F S1024x16 .bf16) (b2 : Vec F S1x16 .f32) :
    FVec F S256x16 .f32 :=
  softmax (logits (hidden x w1t b1 w1gt b1g) w2t b2)

/-- The routing probabilities of a block of 2048 tokens: eight runs of 256, one below the other. -/
def blockOut (x0 : Vec F S2048x1024 .f32) (w1t : Vec F S1024x1024 .bf16) (b1 : Vec F S1x1024 .f32)
    (w1gt : Vec F S1024x1024 .fp8e4m3) (b1g : Vec F S1x1024 .f32) (w2t : Vec F S1024x16 .bf16) (b2 : Vec F S1x16 .f32) :
    FVec F S2048x16 .f32 :=
  concatenate S2048x16 0
    [
      ⟨S256x16, tile (View.ld x0 (Rect.unit (s := S2048x1024) ![0, 0] S256x1024.size inb_S2048x1024_S256x1024_0_0)) w1t b1 w1gt b1g w2t b2⟩,
      ⟨S256x16, tile (View.ld x0 (Rect.unit (s := S2048x1024) ![256, 0] S256x1024.size inb_S2048x1024_S256x1024_256_0)) w1t b1 w1gt b1g w2t b2⟩,
      ⟨S256x16, tile (View.ld x0 (Rect.unit (s := S2048x1024) ![512, 0] S256x1024.size inb_S2048x1024_S256x1024_512_0)) w1t b1 w1gt b1g w2t b2⟩,
      ⟨S256x16, tile (View.ld x0 (Rect.unit (s := S2048x1024) ![768, 0] S256x1024.size inb_S2048x1024_S256x1024_768_0)) w1t b1 w1gt b1g w2t b2⟩,
      ⟨S256x16, tile (View.ld x0 (Rect.unit (s := S2048x1024) ![1024, 0] S256x1024.size inb_S2048x1024_S256x1024_1024_0)) w1t b1 w1gt b1g w2t b2⟩,
      ⟨S256x16, tile (View.ld x0 (Rect.unit (s := S2048x1024) ![1280, 0] S256x1024.size inb_S2048x1024_S256x1024_1280_0)) w1t b1 w1gt b1g w2t b2⟩,
      ⟨S256x16, tile (View.ld x0 (Rect.unit (s := S2048x1024) ![1536, 0] S256x1024.size inb_S2048x1024_S256x1024_1536_0)) w1t b1 w1gt b1g w2t b2⟩,
      ⟨S256x16, tile (View.ld x0 (Rect.unit (s := S2048x1024) ![1792, 0] S256x1024.size inb_S2048x1024_S256x1024_1792_0)) w1t b1 w1gt b1g w2t b2⟩]
    concatenates_S256x16_S256x16_S256x16_S256x16_S256x16_S256x16_S256x16_S256x16_S2048x16_d0

section Body

variable (c : Dev nD) (i : grid0.Coords)
  (a1 : Memref sig .tc .vmem S2048x1024 .f32) (h1 : a1.IsWhole)
  (a2 : Memref sig .tc .vmem S1024x1024 .f32) (h2 : a2.IsWhole)
  (a3 : Memref sig .tc .vmem S1x1024 .f32) (h3 : a3.IsWhole)
  (a4 : Memref sig .tc .vmem S1024x1024 .f32) (h4 : a4.IsWhole)
  (a5 : Memref sig .tc .vmem S1x1024 .f32) (h5 : a5.IsWhole)
  (a6 : Memref sig .tc .vmem S16x1024 .f32) (h6 : a6.IsWhole)
  (a7 : Memref sig .tc .vmem S1x16 .f32) (h7 : a7.IsWhole)
  (a8 : Memref sig .tc .vmem S2048x16 .f32) (h8 : a8.IsWhole)
  (a9 : Memref sig .tc .vmem S1024x1024 .bf16) (h9 : a9.IsWhole)
  (a10 : Memref sig .tc .vmem S1024x1024 .fp8e4m3) (h10 : a10.IsWhole)
  (a11 : Memref sig .tc .vmem S1024x16 .bf16) (h11 : a11.IsWhole)

/-- A later point leaves the block's probabilities under the weights the scratch buffers hold. -/
theorem out_B (hc : ¬cond0_0 i)
    (x0 : Vec F S2048x1024 .f32) (x1 : Vec F S1024x1024 .f32) (x2 : Vec F S1x1024 .f32) (x3 : Vec F S1024x1024 .f32)
    (x4 : Vec F S1x1024 .f32) (x5 : Vec F S16x1024 .f32) (x6 : Vec F S1x16 .f32)
    (xs0 : Vec F S1024x1024 .bf16) (xs1 : Vec F S1024x1024 .fp8e4m3) (xs2 : Vec F S1024x16 .bf16) :
    out0_B_7 c i a1 h1 a2 h2 a3 h3 a4 h4 a5 h5 a6 h6 a7 h7 a8 h8 a9 h9 a10 h10 a11 h11 hc x0 x1 x2 x3 x4 x5 x6 xs0 xs1 xs2
      = blockOut x0 xs0 x2 xs1 x4 xs2 x6 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 xs0 xs1 xs2)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread, h11.read_unread,
    View.ld_unit_zero (S := S1024x1024) hz, View.ld_unit_zero (S := S1x1024) hz,
    View.ld_unit_zero (S := S16x1024) hz, View.ld_unit_zero (S := S1x16) hz, View.ld_unit_zero (S := S1024x16) hz]
  rfl

/-- The first point leaves the block's probabilities under the weights it has just stored. -/
theorem out_A (hc : cond0_0 i)
    (x0 : Vec F S2048x1024 .f32) (x1 : Vec F S1024x1024 .f32) (x2 : Vec F S1x1024 .f32) (x3 : Vec F S1024x1024 .f32)
    (x4 : Vec F S1x1024 .f32) (x5 : Vec F S16x1024 .f32) (x6 : Vec F S1x16 .f32) :
    out0_A_7 c i a1 h1 a2 h2 a3 h3 a4 h4 a5 h5 a6 h6 a7 h7 a8 h8 a9 h9 a10 h10 a11 h11 hc x0 x1 x2 x3 x4 x5 x6
      = blockOut x0 (k0_pay2 x1) x2 (k0_pay3 x3) x4 (k0_pay4 x5) x6 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readCov_unit_zero (S := S1024x1024) _ hz, View.readCov_unit_zero (S := S1024x16) _ hz,
    View.readAt_eq_ld, h1.read_unread, h2.read_unread, h3.read_unread, h4.read_unread, h5.read_unread, h6.read_unread, h7.read_unread,
    View.ld_unit_zero (S := S1024x1024) hz, View.ld_unit_zero (S := S1x1024) hz,
    View.ld_unit_zero (S := S16x1024) hz, View.ld_unit_zero (S := S1x16) hz, View.ld_unit_zero (S := S1024x16) hz]
  rfl

/-- The first point leaves the up projection's weight, transposed, in its scratch buffer. -/
theorem scratch_A_0 (hc : cond0_0 i)
    (x0 : Vec F S2048x1024 .f32) (x1 : Vec F S1024x1024 .f32) (x2 : Vec F S1x1024 .f32) (x3 : Vec F S1024x1024 .f32)
    (x4 : Vec F S1x1024 .f32) (x5 : Vec F S16x1024 .f32) (x6 : Vec F S1x16 .f32) :
    sout0_A_0 c i a1 h1 a2 h2 a3 h3 a4 h4 a5 h5 a6 h6 a7 h7 a8 h8 a9 h9 a10 h10 a11 h11 hc x0 x1 x2 x3 x4 x5 x6 = k0_pay2 x1 := by
  unfold sout0_A_0
  rw [View.read_writes_eq_canon _ _ _ (scover0_A_0 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x1024) hz, View.ld_unit_zero (S := S1x1024) hz,
    View.ld_unit_zero (S := S16x1024) hz, View.ld_unit_zero (S := S1x16) hz, View.ld_unit_zero (S := S1024x16) hz]

/-- The first point leaves the gate's weight, transposed, in its scratch buffer. -/
theorem scratch_A_1 (hc : cond0_0 i)
    (x0 : Vec F S2048x1024 .f32) (x1 : Vec F S1024x1024 .f32) (x2 : Vec F S1x1024 .f32) (x3 : Vec F S1024x1024 .f32)
    (x4 : Vec F S1x1024 .f32) (x5 : Vec F S16x1024 .f32) (x6 : Vec F S1x16 .f32) :
    sout0_A_1 c i a1 h1 a2 h2 a3 h3 a4 h4 a5 h5 a6 h6 a7 h7 a8 h8 a9 h9 a10 h10 a11 h11 hc x0 x1 x2 x3 x4 x5 x6 = k0_pay3 x3 := by
  unfold sout0_A_1
  rw [View.read_writes_eq_canon _ _ _ (scover0_A_1 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x1024) hz, View.ld_unit_zero (S := S1x1024) hz,
    View.ld_unit_zero (S := S16x1024) hz, View.ld_unit_zero (S := S1x16) hz, View.ld_unit_zero (S := S1024x16) hz]

/-- The first point leaves the router's weight, transposed, in its scratch buffer. -/
theorem scratch_A_2 (hc : cond0_0 i)
    (x0 : Vec F S2048x1024 .f32) (x1 : Vec F S1024x1024 .f32) (x2 : Vec F S1x1024 .f32) (x3 : Vec F S1024x1024 .f32)
    (x4 : Vec F S1x1024 .f32) (x5 : Vec F S16x1024 .f32) (x6 : Vec F S1x16 .f32) :
    sout0_A_2 c i a1 h1 a2 h2 a3 h3 a4 h4 a5 h5 a6 h6 a7 h7 a8 h8 a9 h9 a10 h10 a11 h11 hc x0 x1 x2 x3 x4 x5 x6 = k0_pay4 x5 := by
  unfold sout0_A_2
  rw [View.read_writes_eq_canon _ _ _ (scover0_A_2 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x1024) hz, View.ld_unit_zero (S := S1x1024) hz,
    View.ld_unit_zero (S := S16x1024) hz, View.ld_unit_zero (S := S1x16) hz, View.ld_unit_zero (S := S1024x16) hz]

end Body

end Cert.KernelIdeal.Tile

end
-- ==== Proof.Router.lean ====
/-
  The fused router of one token over the extended reals: what both programs are shown to compute.

  A token is a row of 1024 numbers. Its hidden layer is the up projection times the logistic of the gate, kept where
  positive; sixteen logits follow by a last linear layer; the routing probabilities are the softmax of the logits.
  The file mentions no program.
-/
module

public import Idealize.ShloMosaic.PureOps.Ideal
public import Idealize.ShloMosaic.PureOps.Ideal.Laws
public import Idealize.ShloMosaic.Lib.ValueIdx

@[expose] public section

noncomputable section

open Idealize.ShloMosaic
open Idealize.ShloMosaic.ValueIdx
open scoped BigOperators

namespace Cert.Router

/-- Output `j` of a linear layer with weight `w` (output by input) and bias `b`, at the input row `x`. -/
def linear {n : ℕ} (w : Fin n → Fin 1024 → EReal) (b : Fin n → EReal) (x : Fin 1024 → EReal) (j : Fin n) : EReal :=
  (∑ k : Fin 1024, x k * w j k) + b j

/-- The gated hidden layer: `max (up * logistic gate) 0`. -/
def hidden (w1 : Fin 1024 → Fin 1024 → EReal) (b1 : Fin 1024 → EReal) (wg : Fin 1024 → Fin 1024 → EReal)
    (bg : Fin 1024 → EReal) (x : Fin 1024 → EReal) (j : Fin 1024) : EReal :=
  max (linear w1 b1 x j * Ideal.logistic (linear wg bg x j)) 0

/-- The largest of sixteen logits. -/
def largest (l : Fin 16 → EReal) : EReal := (Finset.univ : Finset (Fin 16)).fold max ⊥ l

/-- The exponential of logit `e`, the largest logit subtracted first. -/
def weight (l : Fin 16 → EReal) (e : Fin 16) : EReal := Ideal.exp (l e - largest l)

/-- The softmax of sixteen logits at `e`. -/
def softmax (l : Fin 16 → EReal) (e : Fin 16) : EReal := Ideal.div (weight l e) (∑ k : Fin 16, weight l k)

/-- The probability with which the token `x` is routed to expert `e`. -/
def prob (w1 : Fin 1024 → Fin 1024 → EReal) (b1 : Fin 1024 → EReal) (wg : Fin 1024 → Fin 1024 → EReal)
    (bg : Fin 1024 → EReal) (w2 : Fin 16 → Fin 1024 → EReal) (b2 : Fin 16 → EReal) (x : Fin 1024 → EReal) (e : Fin 16) :
    EReal :=
  softmax (linear w2 b2 (hidden w1 b1 wg bg x)) e

/-- The router of every token, as an array, of the seven argument arrays. -/
def routed (x : FVec Ideal ⟨2, ![8192, 1024]⟩ .f32) (w1 : FVec Ideal ⟨2, ![1024, 1024]⟩ .f32)
    (b1 : FVec Ideal ⟨1, ![1024]⟩ .f32) (wg : FVec Ideal ⟨2, ![1024, 1024]⟩ .f32) (bg : FVec Ideal ⟨1, ![1024]⟩ .f32)
    (w2 : FVec Ideal ⟨2, ![16, 1024]⟩ .f32) (b2 : FVec Ideal ⟨1, ![16]⟩ .f32) : FVec Ideal ⟨2, ![8192, 16]⟩ .f32 := fun i =>
  prob (fun j k => w1 (ix2 j k)) (fun j => b1 (ix1 j)) (fun j k => wg (ix2 j k)) (fun j => bg (ix1 j))
    (fun e k => w2 (ix2 e k)) (fun e => b2 (ix1 e)) (fun k => x (ix2 (i 0 : Fin 8192) k)) (i 1 : Fin 16)

/-- The single-precision word of minus infinity denotes `⊥`. -/
theorem ofBits_neg_inf : (FloatOps.ofBits .f32 0xFF800000#32 : Ideal .f32) = ⊥ := by
  show Ideal.ofBits .f32 0xFF800000#32 = ⊥
  simp [Ideal.ofBits, Ideal.ieee]

end Cert.Router

end
-- ==== Proof.TileRead.lean ====
/-
  The kernel's computation on 256 tokens, and on a block of 2048, read at one token and one expert over the extended
  reals: each is the router of that token's row.
-/
module

public import proofs.«01_k».proof.Proof.Tile
public import proofs.«01_k».proof.Proof.Router
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

open Idealize.ShloMosaic Idealize.ShloMosaic.TcCoe Idealize.SL.Sem
open Idealize.ShloMosaic.ValueIdx
open scoped BigOperators

namespace Cert.KernelIdeal.Tile

open Cert.KernelIdeal Cert.KernelIdeal.Gen

/-- The coordinate a row reduction of a 256 by 16 array inserts is the column. -/
theorem lift_row (r : Fin 256) (k : Fin 16) : reduces_S256x16_S256.lift (ix1 r) k = ix2 r k := by
  funext a; apply Fin.ext
  match a with
  | ⟨0, _⟩ => rfl
  | ⟨1, _⟩ => rfl

/-- A linear layer at a token and an output is the row's linear layer, for the weight's transpose. -/
theorem linear_apply {φ ψ : FTy} (a : FVec Ideal S256x1024 φ) (w : FVec Ideal S1024x1024 ψ) (b : Vec Ideal S1x1024 .f32)
    (r : Fin 256) (j : Fin 1024) :
    linear a w b (ix2 r j)
      = Router.linear (fun j k => w (ix2 k j)) (fun j => b (ix2 (0 : Fin 1) j)) (fun k => a (ix2 r k)) j := by
  unfold linear Router.linear
  rw [addf_apply, shapeCast_self]
  refine congrArg₂ (· + ·) ?_ (broadcastTo_1b_ab_apply b _ r j)
  refine (Ideal.matmul_plain_apply (M := 256) (K := 1024) (N := 1024) none a w _ r j).trans ?_
  rw [constant_apply, Ideal.ofBits_zero_f32, zero_add]

/-- The hidden layer at a token is the row's hidden layer. -/
theorem hidden_apply (x : Vec Ideal S256x1024 .f32) (w1t : Vec Ideal S1024x1024 .bf16) (b1 : Vec Ideal S1x1024 .f32)
    (w1gt : Vec Ideal S1024x1024 .fp8e4m3) (b1g : Vec Ideal S1x1024 .f32) (r : Fin 256) (j : Fin 1024) :
    hidden x w1t b1 w1gt b1g (ix2 r j)
      = Router.hidden (fun j k => w1t (ix2 k j)) (fun j => b1 (ix2 (0 : Fin 1) j)) (fun j k => w1gt (ix2 k j))
          (fun j => b1g (ix2 (0 : Fin 1) j)) (fun k => x (ix2 r k)) j := by
  unfold hidden Router.hidden
  rw [maximumf_apply, mulf_apply, linear_apply]
  refine congrArg₂ max (congrArg₂ (· * ·) rfl (congrArg Ideal.logistic ?_)) Ideal.ofBits_zero_f32
  exact linear_apply _ w1gt b1g r j

/-- The logits at a token are the last linear layer of the token's hidden row. -/
theorem logits_apply (h : FVec Ideal S256x1024 .f32) (w2t : Vec Ideal S1024x16 .bf16) (b2 : Vec Ideal S1x16 .f32)
    (r : Fin 256) (e : Fin 16) :
    logits h w2t b2 (ix2 r e)
      = Router.linear (fun e k => w2t (ix2 k e)) (fun e => b2 (ix2 (0 : Fin 1) e)) (fun k => h (ix2 r k)) e := by
  unfold logits Router.linear
  rw [addf_apply, shapeCast_self]
  refine congrArg₂ (· + ·) ?_ (broadcastTo_1b_ab_apply b2 _ r e)
  refine (Ideal.matmul_plain_apply (M := 256) (K := 1024) (N := 16) none (truncf .bf16 h bitsLt_bf16_f32) w2t _ r e).trans ?_
  rw [constant_apply, Ideal.ofBits_zero_f32, zero_add]
  rfl

/-- A number per token laid along the experts reads, everywhere on a token's row, that token's number. -/
theorem spread_apply (v : FVec Ideal S256 .f32) (r : Fin 256) (e : Fin 16) : spread v (ix2 r e) = v (ix1 r) := by
  unfold spread
  refine (broadcastTo_apply _ broadcasts_S256x1_S256x16 (ix2 r e) (ix2 r (0 : Fin 1)) fun a => ?_).trans
    (shapeCast_a_a1_apply v _ r 0)
  match a with
  | ⟨0, _⟩ => rfl
  | ⟨1, _⟩ => rfl

/-- The exponentials at a token are those of the token's row of logits. -/
theorem weights_apply (l : FVec Ideal S256x16 .f32) (r : Fin 256) (e : Fin 16) :
    weights l (ix2 r e) = Router.weight (fun k => l (ix2 r k)) e := by
  unfold weights Router.weight Router.largest
  refine congrArg Ideal.exp ?_
  rw [subf_apply, spread_apply]
  refine congrArg (l (ix2 r e) - ·) ?_
  refine (Ideal.multiReduction_maximumf_single l _ reduces_S256x16_S256 _ _ (ix1 r)).trans ?_
  rw [Router.ofBits_neg_inf]
  exact congrArg (fun f : Fin 16 → EReal => (Finset.univ : Finset (Fin 16)).fold max ⊥ f)
    (funext fun k => congrArg l (lift_row r k))

/-- The softmax at a token is the softmax of the token's row of logits. -/
theorem softmax_apply (l : FVec Ideal S256x16 .f32) (r : Fin 256) (e : Fin 16) :
    softmax l (ix2 r e) = Router.softmax (fun k => l (ix2 r k)) e := by
  unfold softmax Router.softmax
  rw [divf_apply, weights_apply, spread_apply]
  refine congrArg (Ideal.div _) ?_
  refine (Ideal.multiReduction_add_single (weights l) _ reduces_S256x16_S256 _ _ (ix1 r)).trans ?_
  exact Finset.sum_congr rfl fun k _ => (congrArg (weights l) (lift_row r k)).trans (weights_apply l r k)

/-- The computation on 256 tokens, at one of them, is the router of its row. -/
theorem tile_apply (x : Vec Ideal S256x1024 .f32) (w1t : Vec Ideal S1024x1024 .bf16) (b1 : Vec Ideal S1x1024 .f32)
    (w1gt : Vec Ideal S1024x1024 .fp8e4m3) (b1g : Vec Ideal S1x1024 .f32) (w2t : Vec Ideal S1024x16 .bf16)
    (b2 : Vec Ideal S1x16 .f32) (r : Fin 256) (e : Fin 16) :
    tile x w1t b1 w1gt b1g w2t b2 (ix2 r e)
      = Router.prob (fun j k => w1t (ix2 k j)) (fun j => b1 (ix2 (0 : Fin 1) j)) (fun j k => w1gt (ix2 k j))
          (fun j => b1g (ix2 (0 : Fin 1) j)) (fun e k => w2t (ix2 k e)) (fun e => b2 (ix2 (0 : Fin 1) e))
          (fun k => x (ix2 r k)) e := by
  unfold tile Router.prob
  rw [softmax_apply]
  simp only [logits_apply, hidden_apply]

/-- The computation on a block of 2048 tokens, at one of them, is the router of its row. -/
theorem blockOut_apply (x0 : Vec Ideal S2048x1024 .f32) (w1t : Vec Ideal S1024x1024 .bf16) (b1 : Vec Ideal S1x1024 .f32)
    (w1gt : Vec Ideal S1024x1024 .fp8e4m3) (b1g : Vec Ideal S1x1024 .f32) (w2t : Vec Ideal S1024x16 .bf16)
    (b2 : Vec Ideal S1x16 .f32) (r : Fin 2048) (e : Fin 16) :
    blockOut x0 w1t b1 w1gt b1g w2t b2 (ix2 r e)
      = Router.prob (fun j k => w1t (ix2 k j)) (fun j => b1 (ix2 (0 : Fin 1) j)) (fun j k => w1gt (ix2 k j))
          (fun j => b1g (ix2 (0 : Fin 1) j)) (fun e k => w2t (ix2 k e)) (fun e => b2 (ix2 (0 : Fin 1) e))
          (fun k => x0 (ix2 r k)) e := by
  have inb : ∀ n : Fin 8, ∀ a : Fin 2, (![256 * n.val, 0] : Fin 2 → ℕ) a + S256x1024.size a ≤ S2048x1024.size a := by
    decide
  have hn : r.val / 256 < 8 := by have := r.isLt; omega
  have hq : r.val % 256 < 256 := Nat.mod_lt _ (by decide)
  refine (concatenate_ofFn_apply (t := S2048x16) (s₁ := S256x16) 0
    (fun n : Fin 8 => tile (View.ld x0 (Rect.unit (s := S2048x1024) ![256 * n.val, 0] S256x1024.size (inb n)))
      w1t b1 w1gt b1g w2t b2)
    concatenates_S256x16_S256x16_S256x16_S256x16_S256x16_S256x16_S256x16_S256x16_S2048x16_d0 rfl 256 rfl (ix2 r e)
    ⟨r.val / 256, hn⟩ rfl (ix2 ⟨r.val % 256, hq⟩ e) rfl (fun b hb => ?_)).trans ?_
  · match b with
    | ⟨0, _⟩ => exact absurd rfl hb
    | ⟨1, _⟩ => rfl
  · rw [tile_apply]
    refine congrArg (fun x => Router.prob _ _ _ _ _ _ x e) (funext fun k => ?_)
    refine congrArg x0 (funext fun a => Fin.ext ?_)
    match a with
    | ⟨0, _⟩ => show 256 * (r.val / 256) + 1 * (r.val % 256) = r.val; omega
    | ⟨1, _⟩ => show 0 + 1 * k.val = k.val; omega

end Cert.KernelIdeal.Tile

end
-- ==== Proof.Whole.lean ====
/-
  The kernel's result array: every token's row of it holds the router of that token.

  First the blocks a grid point loads are read as parts of the arguments, then the scratch buffers are shown to hold
  the transposed weights after every point, then each point's write-back is read at an index, and the four blocks are
  put together.
-/
module

public import proofs.«01_k».proof.Proof.TileRead
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.ValueIdx
open Idealize.ShloMosaic.Pipeline (Dat)

namespace Cert.KernelIdeal.Whole

open Cert.KernelIdeal Cert.KernelIdeal.Gen Cert.KernelIdeal.Value Cert.KernelIdeal.Tile

variable {F : FTy → Type} [FloatOps F]
variable (m : (ℓ : Loc nD τ sig) → Buf (Elt F) ℓ)

/-! ## The arrays the grid reads -/

/-- The up projection's bias reaches the grid as one row. -/
theorem bias_up (c : Dev nD) : V m c main_v0 = shapeCast S1x1024 (m ((c : Thread nD τ).loc main_arg2)) shapeCasts_S1024_S1x1024 := by
  show StableHlo.after hostOps0 _ (Proc.devRef .tc main_v0) = _
  after_results
  rfl

/-- The gate's bias reaches the grid as one row. -/
theorem bias_gate (c : Dev nD) : V m c main_v1 = shapeCast S1x1024 (m ((c : Thread nD τ).loc main_arg4)) shapeCasts_S1024_S1x1024 := by
  show StableHlo.after hostOps0 _ (Proc.devRef .tc main_v1) = _
  after_results
  rfl

/-- The router's bias reaches the grid as one row. -/
theorem bias_out (c : Dev nD) : V m c main_v2 = shapeCast S1x16 (m ((c : Thread nD τ).loc main_arg6)) shapeCasts_S16_S1x16 := by
  show StableHlo.after hostOps0 _ (Proc.devRef .tc main_v2) = _
  after_results
  rfl

/-! ## The blocks a point loads -/

/-- The token block moves down by one block per point; every other input's block is fixed at the origin. -/
theorem offsets : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- Every point loads the whole of the up projection's weight. -/
theorem block_1 (c : Dev nD) (t : Fin cfg0.N) : (iblk m c 1 t : Vec F S1024x1024 .f32) = V m c main_arg1 := by
  have e := (offsets t).2.1
  funext y
  refine congrArg (V m c main_arg1) (funext fun a => Fin.ext ?_)
  match a with
  | ⟨0, _⟩ =>
    show win0_1.index t (0 : Fin 2) * 1024 + 1 * (y 0).val = (y 0).val
    rw [e]; show 0 * 1024 + 1 * (y 0).val = (y 0).val; omega
  | ⟨1, _⟩ =>
    show win0_1.index t (1 : Fin 2) * 1024 + 1 * (y 1).val = (y 1).val
    rw [e]; show 0 * 1024 + 1 * (y 1).val = (y 1).val; omega

/-- Every point loads the whole of the gate's weight. -/
theorem block_3 (c : Dev nD) (t : Fin cfg0.N) : (iblk m c 3 t : Vec F S1024x1024 .f32) = V m c main_arg3 := by
  have e := (offsets t).2.2.2.1
  funext y
  refine congrArg (V m c main_arg3) (funext fun a => Fin.ext ?_)
  match a with
  | ⟨0, _⟩ =>
    show win0_3.index t (0 : Fin 2) * 1024 + 1 * (y 0).val = (y 0).val
    rw [e]; show 0 * 1024 + 1 * (y 0).val = (y 0).val; omega
  | ⟨1, _⟩ =>
    show win0_3.index t (1 : Fin 2) * 1024 + 1 * (y 1).val = (y 1).val
    rw [e]; show 0 * 1024 + 1 * (y 1).val = (y 1).val; omega

/-- Every point loads the whole of the router's weight. -/
theorem block_5 (c : Dev nD) (t : Fin cfg0.N) : (iblk m c 5 t : Vec F S16x1024 .f32) = V m c main_arg5 := by
  have e := (offsets t).2.2.2.2.2.1
  funext y
  refine congrArg (V m c main_arg5) (funext fun a => Fin.ext ?_)
  match a with
  | ⟨0, _⟩ =>
    show win0_5.index t (0 : Fin 2) * 16 + 1 * (y 0).val = (y 0).val
    rw [e]; show 0 * 16 + 1 * (y 0).val = (y 0).val; omega
  | ⟨1, _⟩ =>
    show win0_5.index t (1 : Fin 2) * 1024 + 1 * (y 1).val = (y 1).val
    rw [e]; show 0 * 1024 + 1 * (y 1).val = (y 1).val; omega

/-- Every point loads the whole of the up projection's bias row. -/
theorem block_2 (c : Dev nD) (t : Fin cfg0.N) : (iblk m c 2 t : Vec F S1x1024 .f32) = V m c main_v0 := by
  have e := (offsets t).2.2.1
  funext y
  refine congrArg (V m c main_v0) (funext fun a => Fin.ext ?_)
  match a with
  | ⟨0, _⟩ =>
    show win0_2.index t (0 : Fin 2) * 1 + 1 * (y 0).val = (y 0).val
    rw [e]; show 0 * 1 + 1 * (y 0).val = (y 0).val; omega
  | ⟨1, _⟩ =>
    show win0_2.index t (1 : Fin 2) * 1024 + 1 * (y 1).val = (y 1).val
    rw [e]; show 0 * 1024 + 1 * (y 1).val = (y 1).val; omega

/-- Every point loads the whole of the gate's bias row. -/
theorem block_4 (c : Dev nD) (t : Fin cfg0.N) : (iblk m c 4 t : Vec F S1x1024 .f32) = V m c main_v1 := by
  have e := (offsets t).2.2.2.2.1
  funext y
  refine congrArg (V m c main_v1) (funext fun a => Fin.ext ?_)
  match a with
  | ⟨0, _⟩ =>
    show win0_4.index t (0 : Fin 2) * 1 + 1 * (y 0).val = (y 0).val
    rw [e]; show 0 * 1 + 1 * (y 0).val = (y 0).val; omega
  | ⟨1, _⟩ =>
    show win0_4.index t (1 : Fin 2) * 1024 + 1 * (y 1).val = (y 1).val
    rw [e]; show 0 * 1024 + 1 * (y 1).val = (y 1).val; omega

/-- Every point loads the whole of the router's bias row. -/
theorem block_6 (c : Dev nD) (t : Fin cfg0.N) : (iblk m c 6 t : Vec F S1x16 .f32) = V m c main_v2 := by
  have e := (offsets t).2.2.2.2.2.2.1
  funext y
  refine congrArg (V m c main_v2) (funext fun a => Fin.ext ?_)
  match a with
  | ⟨0, _⟩ =>
    show win0_6.index t (0 : Fin 2) * 1 + 1 * (y 0).val = (y 0).val
    rw [e]; show 0 * 1 + 1 * (y 0).val = (y 0).val; omega
  | ⟨1, _⟩ =>
    show win0_6.index t (1 : Fin 2) * 16 + 1 * (y 1).val = (y 1).val
    rw [e]; show 0 * 16 + 1 * (y 1).val = (y 1).val; omega

/-- Point `t` loads tokens `2048 t` to `2048 t + 2047`. -/
theorem block_0 (c : Dev nD) (t : Fin cfg0.N) (r : Fin 2048) (k : Fin 1024) (R : Fin 8192) (hR : R.val = t.val * 2048 + r.val) :
    (iblk m c 0 t : Vec F S2048x1024 .f32) (ix2 r k) = m ((c : Thread nD τ).loc main_arg0) (ix2 R k) := by
  have e := (offsets t).1
  rw [← V_main_arg0 m c]
  refine congrArg (V m c main_arg0) (funext fun a => Fin.ext ?_)
  match a with
  | ⟨0, _⟩ =>
    show win0_0.index t (0 : Fin 2) * 2048 + 1 * r.val = R.val
    rw [e]; show t.val * 2048 + 1 * r.val = R.val; omega
  | ⟨1, _⟩ =>
    show win0_0.index t (1 : Fin 2) * 1024 + 1 * k.val = k.val
    rw [e]; show 0 * 1024 + 1 * k.val = k.val; omega

/-! ## What each point leaves -/

/-- After every point the three scratch buffers hold the transposed, narrowed weights. -/
theorem scratch (c : Dev nD) : ∀ (n : ℕ) (h : n < cfg0.N), (outsAt0 m c n h).2
    = (k0_pay2 (V m c main_arg1), k0_pay3 (V m c main_arg3), k0_pay4 (V m c main_arg5))
  | 0, h => by
    rw [show outsAt0 m c 0 h = _ from outsAt0_A m c ⟨0, h⟩ rfl]
    dsimp only
    rw [scratch_A_0, scratch_A_1, scratch_A_2, block_1, block_3, block_5]
  | n + 1, h => by
    have hN : cfg0.N = 4 := N_0
    have hB : ¬(⟨n + 1, h⟩ : Fin cfg0.N).val % 4 = 0 := by dsimp only; omega
    rw [show outsAt0 m c (n + 1) h = _ from outsAt0_B m c ⟨n + 1, h⟩ hB]
    exact scratch c n (Nat.lt_of_succ_lt h)

/-- After point `t` the output buffer holds the probabilities of the tokens of block `t`. -/
theorem output (c : Dev nD) (t : Fin cfg0.N) : (outsAt0 m c t.val t.isLt).1
    = blockOut (iblk m c 0 t) (k0_pay2 (V m c main_arg1)) (V m c main_v0) (k0_pay3 (V m c main_arg3)) (V m c main_v1)
        (k0_pay4 (V m c main_arg5)) (V m c main_v2) := by
  by_cases h0 : t.val % 4 = 0
  · rw [outsAt0_A m c t h0]
    dsimp only
    rw [out_A, block_1, block_2, block_3, block_4, block_5, block_6]
  · have hN : cfg0.N = 4 := N_0
    have hs := scratch m c (t.val - 1) (Nat.lt_of_le_of_lt (Nat.sub_le _ _) t.isLt)
    rw [outsAt0_B m c t h0]
    dsimp only
    rw [out_B, block_2, block_4, block_6]
    rw [show (outsAt0 m c (t.val - 1) _).2.1 = _ from congrArg (·.1) hs,
      show (outsAt0 m c (t.val - 1) _).2.2.1 = _ from congrArg (·.2.1) hs,
      show (outsAt0 m c (t.val - 1) _).2.2.2 = _ from congrArg (·.2.2) hs]

/-! ## The result over the extended reals -/

/-- The stored up projection weight is the argument's transpose. -/
theorem stored_up (w : Vec Ideal S1024x1024 .f32) (k j : Fin 1024) : k0_pay2 w (ix2 k j) = w (ix2 j k) := by
  unfold k0_pay2
  simp only [shapeCast_self]
  exact transpose_ix2_apply (truncf (F := Ideal) .bf16 w bitsLt_bf16_f32) _ k j

/-- The stored gate weight is the argument's transpose. -/
theorem stored_gate (w : Vec Ideal S1024x1024 .f32) (k j : Fin 1024) : k0_pay3 w (ix2 k j) = w (ix2 j k) := by
  unfold k0_pay3
  simp only [shapeCast_self]
  exact transpose_ix2_apply (α := EReal) w _ k j

/-- The stored router weight is the argument's transpose. -/
theorem stored_out (w : Vec Ideal S16x1024 .f32) (k : Fin 1024) (e : Fin 16) : k0_pay4 w (ix2 k e) = w (ix2 e k) := by
  unfold k0_pay4
  simp only [shapeCast_self]
  exact transpose_ix2_apply (truncf (F := Ideal) .bf16 w bitsLt_bf16_f32) _ k e

/-- After point `t`, row `r` of the output buffer holds the router of token `2048 t + r`. -/
theorem output_apply (m : (ℓ : Loc nD τ sig) → Buf (Elt Ideal) ℓ) (c : Dev nD) (t : Fin cfg0.N) (r : Fin 2048) (e : Fin 16)
    (R : Fin 8192) (hR : R.val = t.val * 2048 + r.val) : (outsAt0 m c t.val t.isLt).1 (ix2 r e)
    = Router.routed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 R e) := by
  rw [output, V_main_arg1 m c, V_main_arg3 m c, V_main_arg5 m c, bias_up m c, bias_gate m c, bias_out m c, blockOut_apply]
  simp only [stored_up, stored_gate, stored_out, block_0 m c t r _ R hR, shapeCast_a_1a_apply]
  rfl

/-- What the kernel's result array ends holding: the router of every token. -/
theorem result (m : (ℓ : Loc nD τ sig) → Buf (Elt Ideal) ℓ) (c : Dev nD) : (dats m 0 c).arrAt 7 cfg0.N
    = Router.routed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_cover 7 _ (fun t _ => ?_) (fun i => (covered_iff7 i).2 ?_)
  · rw [flushed7]
    funext y
    have ht : t.val < 4 := Nat.lt_of_lt_of_eq t.isLt N_0
    have hy : (y 0).val < 2048 := (y 0).isLt
    have e := (offsets t).2.2.2.2.2.2.2
    have hemb : ((cfg0.win 7).blk t).view.emb y = ix2 (⟨t.val * 2048 + (y 0).val, by omega⟩ : Fin 8192) (y 1 : Fin 16) := by
      funext a; apply Fin.ext
      match a with
      | ⟨0, _⟩ =>
        show win0_7.index t (0 : Fin 2) * 2048 + 1 * (y 0).val = t.val * 2048 + (y 0).val
        rw [e]; show t.val * 2048 + 1 * (y 0).val = _; omega
      | ⟨1, _⟩ =>
        show win0_7.index t (1 : Fin 2) * 16 + 1 * (y 1).val = (y 1).val
        rw [e]; show 0 * 16 + 1 * (y 1).val = (y 1).val; omega
    refine Eq.trans ?_ (congrArg (Router.routed _ _ _ _ _ _ _) hemb.symm)
    refine Eq.trans ?_ (output_apply m c t (y 0 : Fin 2048) (y 1 : Fin 16) _ rfl)
    exact congrArg (outsAt0 m c t.val t.isLt).1 (eq_ix2 (n0 := 2048) (n1 := 16) y)
  · have h0 : (i 0).val < 8192 := (i 0).isLt
    have h1 : (i 1).val < 16 := (i 1).isLt
    omega

end Cert.KernelIdeal.Whole

end
-- ==== Proof.Reference.lean ====
/-
  The reference's result over the extended reals: every row is the router of its token.

  The reference's operations are read one after the other at a token: the two linear layers, the logistic written out
  as one over one plus an exponential, the hidden layer, the logits and the softmax.
-/
module

public import proofs.«01_k».proof.Proof.Router
public import proofs.«01_k».proof.Proof.Gen.ReferenceIdeal.Read
public import Idealize.ShloMosaic.Lib.KernelVsHost
public import Idealize.ShloMosaic.Lib.IdealHost

@[expose] public section

noncomputable section

open Idealize.ShloMosaic Idealize.ShloMosaic.TcCoe Idealize.SL.Sem
open Idealize.ShloMosaic.ValueIdx
open scoped BigOperators

namespace Cert.ReferenceIdeal.Routed

open Cert.ReferenceIdeal Cert.ReferenceIdeal.Read

variable (x : FVec Ideal S8192x1024 .f32) (w1 : FVec Ideal S1024x1024 .f32) (b1 : FVec Ideal S1024 .f32)
  (wg : FVec Ideal S1024x1024 .f32) (bg : FVec Ideal S1024 .f32) (w2 : FVec Ideal S16x1024 .f32) (b2 : FVec Ideal S16 .f32)

/-- The up projection at a token. -/
theorem up_apply (r : Fin 8192) (j : Fin 1024) : val_main_v4 (F := Ideal) x w1 b1 (ix2 r j)
    = Router.linear (fun j k => w1 (ix2 j k)) (fun j => b1 (ix1 j)) (fun k => x (ix2 r k)) j := by
  unfold Router.linear
  rw [val_main_v4_apply, val_main_v1_apply, val_main_v3_apply, val_main_v2_apply]
  refine congrArg₂ (· + ·) (Finset.sum_congr rfl fun k _ => congrArg₂ (· * ·) (congrArg x ?_) ?_) (congrArg b1 ?_)
  · funext a; match a with | ⟨0, _⟩ => rfl | ⟨1, _⟩ => rfl
  · rw [val_main_v0_apply]
    refine congrArg w1 ?_
    funext a; match a with | ⟨0, _⟩ => rfl | ⟨1, _⟩ => rfl
  · funext a; match a with | ⟨0, _⟩ => rfl

/-- The gate's linear layer at a token. -/
theorem gate_apply (r : Fin 8192) (j : Fin 1024) : val_main_v9 (F := Ideal) x wg bg (ix2 r j)
    = Router.linear (fun j k => wg (ix2 j k)) (fun j => bg (ix1 j)) (fun k => x (ix2 r k)) j := by
  unfold Router.linear
  rw [val_main_v9_apply, val_main_v6_apply, val_main_v8_apply, val_main_v7_apply]
  refine congrArg₂ (· + ·) (Finset.sum_congr rfl fun k _ => congrArg₂ (· * ·) (congrArg x ?_) ?_) (congrArg bg ?_)
  · funext a; match a with | ⟨0, _⟩ => rfl | ⟨1, _⟩ => rfl
  · rw [val_main_v5_apply]
    refine congrArg wg ?_
    funext a; match a with | ⟨0, _⟩ => rfl | ⟨1, _⟩ => rfl
  · funext a; match a with | ⟨0, _⟩ => rfl

/-- One over one plus the exponential of the negated gate is the gate's logistic. -/
theorem sigmoid_apply (i : S8192x1024.Idx) :
    val_main_v15 (F := Ideal) x wg bg i = Ideal.logistic (val_main_v9 (F := Ideal) x wg bg i) := by
  rw [val_main_v15_apply, val_main_v14_apply, val_main_cst_0_apply, val_main_v13_apply, val_main_v12_apply, val_main_cst_apply,
    val_main_v11_apply, val_main_v10_apply]
  show Ideal.div (Ideal.ofBits .f32 0x3F800000#32) (Ideal.ofBits .f32 0x3F800000#32 + Ideal.exp (-_)) = _
  rw [Ideal.ofBits_one_f32]
  rfl

/-- The gated hidden layer at a token. -/
theorem hidden_apply (r : Fin 8192) (j : Fin 1024) : val_main_v17 (F := Ideal) x w1 b1 wg bg (ix2 r j)
    = Router.hidden (fun j k => w1 (ix2 j k)) (fun j => b1 (ix1 j)) (fun j k => wg (ix2 j k)) (fun j => bg (ix1 j))
        (fun k => x (ix2 r k)) j := by
  unfold Router.hidden
  rw [val_main_v17_apply, val_main_v16_apply, up_apply, sigmoid_apply, gate_apply, val_main_call0_v0_apply,
    val_main_call0_cst_apply]
  exact congrArg (max _) Ideal.ofBits_zero_f32

/-- The logits at a token. -/
theorem logits_apply (r : Fin 8192) (e : Fin 16) : val_main_v22 (F := Ideal) x w1 b1 wg bg w2 b2 (ix2 r e)
    = Router.linear (fun e k => w2 (ix2 e k)) (fun e => b2 (ix1 e))
        (Router.hidden (fun j k => w1 (ix2 j k)) (fun j => b1 (ix1 j)) (fun j k => wg (ix2 j k)) (fun j => bg (ix1 j))
          (fun k => x (ix2 r k))) e := by
  unfold Router.linear
  rw [val_main_v22_apply, val_main_v19_apply, val_main_v21_apply, val_main_v20_apply]
  refine congrArg₂ (· + ·) (Finset.sum_congr rfl fun k _ => congrArg₂ (· * ·) ?_ ?_) (congrArg b2 ?_)
  · refine Eq.trans (congrArg (val_main_v17 (F := Ideal) x w1 b1 wg bg) ?_) (hidden_apply x w1 b1 wg bg r k)
    funext a; match a with | ⟨0, _⟩ => rfl | ⟨1, _⟩ => rfl
  · rw [val_main_v18_apply]
    refine congrArg w2 ?_
    funext a; match a with | ⟨0, _⟩ => rfl | ⟨1, _⟩ => rfl
  · funext a; match a with | ⟨0, _⟩ => rfl

/-- The row reduction of the logits drops the expert's axis. -/
theorem reduces_row : S8192x16.Reduces [1] S8192 := by decide

/-- The coordinate a row reduction inserts is the column. -/
theorem lift_row (r : Fin 8192) (k : Fin 16) : reduces_row.lift (ix1 r) k = ix2 r k := by
  funext a; apply Fin.ext
  match a with
  | ⟨0, _⟩ => rfl
  | ⟨1, _⟩ => rfl

/-- The subtracted number at a token is the largest of its logits. -/
theorem largest_apply (r : Fin 8192) : val_main_v25 (F := Ideal) x w1 b1 wg bg w2 b2 (ix1 r)
    = Router.largest (fun k => val_main_v22 (F := Ideal) x w1 b1 wg bg w2 b2 (ix2 r k)) := by
  unfold Router.largest
  rw [val_main_v25_apply, val_main_v24_apply, val_main_cst_2_apply, Router.ofBits_neg_inf]
  refine (max_eq_right bot_le).trans ?_
  unfold val_main_v23
  generalize val_main_v22 (F := Ideal) x w1 b1 wg bg w2 b2 = l
  unfold val_main_cst_1
  refine (congrFun (hostReduce_maximumf_eq_multiReduction (s := S8192x16) (t := S8192) (u := S_) (φ := .f32) (F := Ideal) l
    0xFF800000#32 Gen.reducesTo_S8192x16_S8192_d1 Gen.h_S_ reduces_row (.inl rfl) rfl) (ix1 r)).trans ?_
  refine (Ideal.multiReduction_maximumf_single l _ reduces_row _ _ (ix1 r)).trans ?_
  rw [Router.ofBits_neg_inf]
  exact congrArg (fun f : Fin 16 → EReal => (Finset.univ : Finset (Fin 16)).fold max ⊥ f)
    (funext fun k => congrArg l (lift_row r k))

/-- The exponentials at a token. -/
theorem weights_apply (r : Fin 8192) (e : Fin 16) : val_main_v29 (F := Ideal) x w1 b1 wg bg w2 b2 (ix2 r e)
    = Router.weight (fun k => val_main_v22 (F := Ideal) x w1 b1 wg bg w2 b2 (ix2 r k)) e := by
  unfold Router.weight
  rw [val_main_v29_apply, val_main_v28_apply, val_main_v27_apply, val_main_v26_apply, ← largest_apply]
  refine congrArg Ideal.exp (congrArg (val_main_v22 (F := Ideal) x w1 b1 wg bg w2 b2 (ix2 r e) - ·) ?_)
  refine congrArg (val_main_v25 (F := Ideal) x w1 b1 wg bg w2 b2) ?_
  funext a; match a with | ⟨0, _⟩ => rfl

/-- The divisor at a token is the sum of its exponentials. -/
theorem total_apply (r : Fin 8192) : val_main_v30 (F := Ideal) x w1 b1 wg bg w2 b2 (ix1 r)
    = ∑ k : Fin 16, Router.weight (fun k => val_main_v22 (F := Ideal) x w1 b1 wg bg w2 b2 (ix2 r k)) k := by
  rw [val_main_v30_apply, val_main_cst_3_apply]
  refine (congrArg (· + _) Ideal.ofBits_zero_f32).trans ((zero_add _).trans (Finset.sum_congr rfl fun k _ => ?_))
  rw [← weights_apply]
  refine congrArg (val_main_v29 (F := Ideal) x w1 b1 wg bg w2 b2) ?_
  funext a; match a with | ⟨0, _⟩ => rfl | ⟨1, _⟩ => rfl

/-- The reference's result at a token and an expert. -/
theorem result_apply (r : Fin 8192) (e : Fin 16) : val_main_v33 (F := Ideal) x w1 b1 wg bg w2 b2 (ix2 r e)
    = Router.routed x w1 b1 wg bg w2 b2 (ix2 r e) := by
  rw [val_main_v33_apply, weights_apply, val_main_v32_apply, val_main_v31_apply]
  refine (congrArg (Ideal.div _) (Eq.trans (congrArg (val_main_v30 (F := Ideal) x w1 b1 wg bg w2 b2) ?_)
    (total_apply x w1 b1 wg bg w2 b2 r))).trans ?_
  · funext a; match a with | ⟨0, _⟩ => rfl
  · simp only [logits_apply]
    rfl

/-- What the reference computes: the router of every token. -/
theorem result : val_main_v33 (F := Ideal) x w1 b1 wg bg w2 b2 = Router.routed x w1 b1 wg bg w2 b2 :=
  funext fun i => (congrArg (val_main_v33 (F := Ideal) x w1 b1 wg bg w2 b2) (eq_ix2 (n0 := 8192) (n1 := 16) i)).trans
    ((result_apply x w1 b1 wg bg w2 b2 (i 0) (i 1)).trans
      (congrArg (Router.routed x w1 b1 wg bg w2 b2) (eq_ix2 (n0 := 8192) (n1 := 16) i).symm))

end Cert.ReferenceIdeal.Routed

end
-- ==== Proof.lean ====
/-
  The proof of `Cert.Claim`: the three programs return with their arguments unchanged, the real-number kernel is the
  kernel with nothing rewritten, and over the extended reals the kernel's result is the reference's, since both are
  the router of every token (`Cert.Router.routed`).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Whole
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference returns with its arguments unchanged and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the kernel and the reference both return with the router of every token
    in their result, over the extended reals. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6⟩ := hagree c
  refine (h c).1.trans ((Cert.ReferenceIdeal.Read.val_main_v33_eq m' c).trans ?_)
  refine (Cert.ReferenceIdeal.Routed.result _ _ _ _ _ _ _).trans (Eq.trans ?_ (Cert.KernelIdeal.Whole.result m c).symm)
  rw [e0, e1, e2, e3, e4, e5, e6]

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
